-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_nonneg_finite [hPre_scale_nonneg_finite : Cert.Pre_scale_nonneg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scale_nonneg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_nonneg_finite [hPre_scale_nonneg_finite : Cert.Pre_scale_nonneg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_nonneg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_nonneg_finite [hKernelIdeal : Cert.KernelIdeal.Facts] [hPre_scale_nonneg_finite : Cert.Pre_scale_nonneg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_nonneg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_nonneg_finite [hReferenceIdeal : Cert.ReferenceIdeal.Facts] [hPre_scale_nonneg_finite : Cert.Pre_scale_nonneg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_nonneg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_nonneg_finite [hKernelIdeal : Cert.KernelIdeal.Facts] [hReferenceIdeal : Cert.ReferenceIdeal.Facts] [hPre_scale_nonneg_finite : Cert.Pre_scale_nonneg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_nonneg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_nonneg_finite : Cert.Pre_scale_nonneg_finite.Facts),
    quiescent_Kernel (hKernel := hKernel)
    ∧ quiescent_KernelIdeal (hKernelIdeal := hKernelIdeal)
    ∧ quiescent_KernelIdeal_pre_scale_nonneg_finite (hKernelIdeal := hKernelIdeal) (hPre_scale_nonneg_finite := hPre_scale_nonneg_finite)
    ∧ quiescent_ReferenceIdeal (hReferenceIdeal := hReferenceIdeal)
    ∧ quiescent_ReferenceIdeal_pre_scale_nonneg_finite (hReferenceIdeal := hReferenceIdeal) (hPre_scale_nonneg_finite := hPre_scale_nonneg_finite)
    ∧ preserves_Kernel_KernelIdeal
    ∧ algebraic_KernelIdeal_ReferenceIdeal_pre_scale_nonneg_finite (hKernelIdeal := hKernelIdeal) (hReferenceIdeal := hReferenceIdeal) (hPre_scale_nonneg_finite := hPre_scale_nonneg_finite)
-- ==== Pre_scale_nonneg_finite.lean ====
abbrev S4x8192x2048 : Shape := ⟨3, ![4, 8192, 2048]⟩
abbrev S2048x2048 : Shape := ⟨2, ![2048, 2048]⟩
abbrev S_ : Shape := ⟨0, ![]⟩
abbrev S2048 : Shape := ⟨1, ![2048]⟩

class Facts : Prop where

variable [Facts]

def fn {F : FTy → Type} [FloatOps F] (main_arg0 : FVec F S4x8192x2048 .bf16) (main_arg1 : FVec F S2048x2048 .fp8e4m3) (main_arg2 : FVec F S_ .f32) (main_arg3 : FVec F S2048 .bf16) : IVec S_ 1 :=
  let main_cst : FVec F S_ .f32 := constant S_ .f32 0x00000000#32
  let main_v0 : IVec S_ 1 := cmpf .oge main_arg2 main_cst
  let main_cst_0 : FVec F S_ .f32 := constant S_ .f32 0x7F800000#32
  let main_v1 : IVec S_ 1 := cmpf .olt main_arg2 main_cst_0
  let main_v2 : IVec S_ 1 := andi main_v0 main_v1
  main_v2
-- ==== Kernel.lean ====
abbrev S4x8192x2048 : Shape := ⟨3, ![4, 8192, 2048]⟩
abbrev S2048x2048 : Shape := ⟨2, ![2048, 2048]⟩
abbrev S_ : Shape := ⟨0, ![]⟩
abbrev S2048 : Shape := ⟨1, ![2048]⟩
abbrev S32768x2048 : Shape := ⟨2, ![32768, 2048]⟩
abbrev S1x2048 : Shape := ⟨2, ![1, 2048]⟩
abbrev S1x1 : Shape := ⟨2, ![1, 1]⟩
abbrev S1024x2048 : Shape := ⟨2, ![1024, 2048]⟩

abbrev nBuf : Space → Nat
  | .hbm => 9
  | .vmem => 6
  | .smem => 1
  | _ => 0

abbrev bufTy : (tb : Table) → Fin (tcTables nBuf tb) → BufTy
  | .hbm, ⟨0, _⟩ => ⟨S4x8192x2048, .bf16⟩
  | .hbm, ⟨1, _⟩ => ⟨S2048x2048, .fp8e4m3⟩
  | .hbm, ⟨2, _⟩ => ⟨S_, .f32⟩
  | .hbm, ⟨3, _⟩ => ⟨S2048, .bf16⟩
  | .hbm, ⟨4, _⟩ => ⟨S32768x2048, .bf16⟩
  | .hbm, ⟨5, _⟩ => ⟨S1x2048, .bf16⟩
  | .hbm, ⟨6, _⟩ => ⟨S1x1, .f32⟩
  | .hbm, ⟨7, _⟩ => ⟨S32768x2048, .bf16⟩
  | .hbm, ⟨8, _⟩ => ⟨S4x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .fp8e4m3⟩
  | .local _ .vmem, ⟨3, _⟩ => ⟨S1x2048, .bf16⟩
  | .local _ .vmem, ⟨4, _⟩ => ⟨S1024x2048, .bf16⟩
  | .local _ .vmem, ⟨5, _⟩ => ⟨S1024x2048, .bf16⟩
  | .local _ .smem, ⟨0, _⟩ => ⟨S1x1, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x2048 : Shape := ⟨3, ![4, 8192, 2048]⟩
abbrev S2048x2048 : Shape := ⟨2, ![2048, 2048]⟩
abbrev S_ : Shape := ⟨0, ![]⟩
abbrev S2048 : Shape := ⟨1, ![2048]⟩
abbrev S1x1x2048 : Shape := ⟨3, ![1, 1, 2048]⟩

abbrev nBuf : Space → Nat
  | .hbm => 13
  | .vmem => 2
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .fp8e4m3⟩
  | .hbm, ⟨2, _⟩ => ⟨S_, .f32⟩
  | .hbm, ⟨3, _⟩ => ⟨S2048, .bf16⟩
  | .hbm, ⟨4, _⟩ => ⟨S2048x2048, .bf16⟩
  | .hbm, ⟨5, _⟩ => ⟨S_, .bf16⟩
  | .hbm, ⟨6, _⟩ => ⟨S2048x2048, .bf16⟩
  | .hbm, ⟨7, _⟩ => ⟨S2048x2048, .bf16⟩
  | .hbm, ⟨8, _⟩ => ⟨S4x8192x2048, .f32⟩
  | .hbm, ⟨9, _⟩ => ⟨S4x8192x2048, .bf16⟩
  | .hbm, ⟨10, _⟩ => ⟨S1x1x2048, .bf16⟩
  | .hbm, ⟨11, _⟩ => ⟨S4x8192x2048, .bf16⟩
  | .hbm, ⟨12, _⟩ => ⟨S4x8192x2048, .bf16⟩
  | .local _ .vmem, ⟨0, _⟩ => ⟨S2048x2048, .fp8e4m3⟩
  | .local _ .vmem, ⟨1, _⟩ => ⟨S2048x2048, .bf16⟩
  | _, _ => ⟨S4x8192x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Block.lean ====
/- What one grid point of the kernel computes: the payload of its only store, read at an index. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Linear

open Idealize.ShloMosaic Idealize.ShloMosaic.TcCoe Idealize.SL.Sem
open Cert.KernelIdeal Cert.KernelIdeal.Gen

/-- From a weight matrix `w`, a tile `x` of 1024 input rows, the scale `s` and the bias row `b`, the body stores at
    row `p`, column `o` the inner product of row `p` of the tile with row `o` of the weight, times the scale, plus the
    bias of column `o`. -/
theorem payload_at (w : FVec Ideal S2048x2048 .fp8e4m3) (x : FVec Ideal S1024x2048 .bf16) (s : EReal)
    (b : FVec Ideal S1x2048 .bf16) (y : S1024x2048.Idx) :
    k0_pay1 (F := Ideal) w x s b y
      = (∑ k : Fin 2048, x (ix2 (y 0) k) * w (ix2 (y 1) k)) * s + b (ix2 0 (y 1)) := by
  pointwise [k0_pay1]

end Cert.Linear
-- ==== Proof.KernelArray.lean ====
/- What the kernel's region leaves in its result array: every row of the flattened input against every row of the
   weight, scaled, plus the bias. -/
module

public import proofs.«01_k».proof.Proof.Block
public import proofs.«01_k».proof.Proof.Gen.KernelIdeal.Frame

@[expose] public section

set_option maxRecDepth 16384

noncomputable section

namespace Cert.Linear

open Idealize.ShloMosaic Idealize.ShloMosaic.TcCoe Idealize.SL.Sem
open Cert.KernelIdeal Cert.KernelIdeal.Gen

variable (m : (ℓ : Loc nD τ sig) → Buf (Elt Ideal) ℓ)

/-- Which block each window shows at grid point `t`: the scale, the weight and the bias always their one block, the
    input and the result the `t`-th tile of 1024 rows. -/
theorem idx : ∀ t : Fin cfg0.N, win0_0.index t = ![0, 0] ∧ win0_1.index t = ![t.val, 0]
    ∧ win0_2.index t = ![0, 0] ∧ win0_3.index t = ![0, 0] ∧ win0_4.index t = ![t.val, 0] :=
  (by decide +kernel : ∀ t : Fin grid0.N, _)

/-- The flattened result as a function of the four arrays the region reads. -/
def flatOut (x : FVec Ideal S32768x2048 .bf16) (w : FVec Ideal S2048x2048 .fp8e4m3) (s : FVec Ideal S1x1 .f32)
    (b : FVec Ideal S1x2048 .bf16) : FVec Ideal S32768x2048 .bf16 := fun j =>
  (∑ k : Fin 2048, x (ix2 (j 0) k) * w (ix2 (j 1) k)) * s (ix2 0 0) + b (ix2 0 (j 1))

/-- After the region the result array is `flatOut` of the arrays the region found: the 32 tiles cover it, and each
    grid point writes its own tile. -/
theorem final (c : Dev nD) : (dats m 0 c).arrAt 4 (cfgs 0).N
    = flatOut (V m c main_v0) (V m c main_arg1) (V m c main_v2) (V m c main_v1) := by
  refine (dats m 0 c).arrAt_eq_of_covers 4 _ (by decide +kernel) fun t _ y => ?_
  blk_simp
  rw [after0_4]
  unfold outsAt0 out0_A_4
  frame_out
  rw [payload_at]
  pointwise [flatOut]
  blk_point [iblk, idx t]

end Cert.Linear
-- ==== Proof.KernelValue.lean ====
/- The kernel's result as a function of its arguments: the host's reshapes before and after the region, and the run. -/
module

public import proofs.«01_k».proof.Proof.KernelArray

@[expose] public section

set_option maxRecDepth 16384

noncomputable section

namespace Cert.Linear

open Idealize.ShloMosaic Idealize.ShloMosaic.TcCoe Idealize.SL.Sem
open Cert.KernelIdeal Cert.KernelIdeal.Gen

/-- The linear layer with the scale applied to the finished sum: at batch `j 0`, position `j 1`, output column `j 2`,
    the inner product of the input row with the weight's row `j 2`, times the scale, plus the bias. -/
def scaledSum (x : FVec Ideal S4x8192x2048 .bf16) (w : FVec Ideal S2048x2048 .fp8e4m3) (s : FVec Ideal S_ .f32)
    (b : FVec Ideal S2048 .bf16) : FVec Ideal S4x8192x2048 .bf16 := fun j =>
  (∑ k : Fin 2048, x (ix3 (j 0) (j 1) k) * w (ix2 (j 2) k)) * s ix0 + b (ix1 (j 2))

/-- Flattening the batch axis, computing the flat result and unflattening it is `scaledSum`. -/
theorem unflatten (x : FVec Ideal S4x8192x2048 .bf16) (w : FVec Ideal S2048x2048 .fp8e4m3) (s : FVec Ideal S_ .f32)
    (b : FVec Ideal S2048 .bf16) :
    shapeCast S4x8192x2048 (flatOut (shapeCast S32768x2048 x shapeCasts_S4x8192x2048_S32768x2048) w
      (shapeCast S1x1 s shapeCasts_S_S1x1) (shapeCast S1x2048 b shapeCasts_S2048_S1x2048))
      shapeCasts_S32768x2048_S4x8192x2048 = scaledSum x w s b := by
  funext j
  pointwise [flatOut, scaledSum]

variable (m : (ℓ : Loc nD τ sig) → Buf (Elt Ideal) ℓ) (g : Dev nD → PrngReg)

/-- The region finds the input with its batch axis flattened. -/
theorem entry_input (c : Dev nD) : V m c main_v0
    = shapeCast S32768x2048 (m ((c.tc : Thread nD τ).loc main_arg0)) shapeCasts_S4x8192x2048_S32768x2048 := by
  simp only [V, V0, hostOps0, List.flatten_cons, List.flatten_nil, List.append_nil, List.cons_append, List.nil_append]
  after_results
  rfl

/-- The region finds the bias as a single row. -/
theorem entry_bias (c : Dev nD) : V m c main_v1
    = shapeCast S1x2048 (m ((c.tc : Thread nD τ).loc main_arg3)) shapeCasts_S2048_S1x2048 := by
  simp only [V, V0, hostOps0, List.flatten_cons, List.flatten_nil, List.append_nil, List.cons_append, List.nil_append]
  after_results
  rfl

/-- The region finds the scale as a one by one array. -/
theorem entry_scale (c : Dev nD) : V m c main_v2
    = shapeCast S1x1 (m ((c.tc : Thread nD τ).loc main_arg2)) shapeCasts_S_S1x1 := by
  simp only [V, V0, hostOps0, List.flatten_cons, List.flatten_nil, List.append_nil, List.cons_append, List.nil_append]
  after_results
  rfl

/-- After the last reshape the result buffer holds `scaledSum` of the arguments. -/
theorem kernel_result (c : Dev nD) : Pipeline.afterTail₀ cfgs (dats m) 0 (V0 m) [hostOps1] c main_v4
    = scaledSum (m ((c.tc : Thread nD τ).loc main_arg0)) (m ((c.tc : Thread nD τ).loc main_arg1))
        (m ((c.tc : Thread nD τ).loc main_arg2)) (m ((c.tc : Thread nD τ).loc main_arg3)) := by
  have region : Pipeline.withArrays (cfgs 0).spec c (V0 m c) (fun w => (dats m 0 c).arrAt w (cfgs 0).N)
      (Proc.devRef .tc main_v3) = (dats m 0 c).arrAt 4 (cfgs 0).N :=
    Pipeline.withArrays_arr (cfgs 0).spec winFacts0.arr_inj c _ _ 4
  unfold Pipeline.afterTail₀
  simp only [hostOps1, List.flatten_cons, List.flatten_nil, List.append_nil, List.cons_append, List.nil_append]
  after_results
  rw [region, final, entry_input, entry_bias, entry_scale, V_main_arg1]
  exact unflatten _ _ _ _

/-- The kernel runs, leaves `scaledSum` of its arguments in its result buffer, and leaves its arguments alone. -/
theorem kernel_run : θ_run defs (onTc (τ := τ) (main (F := Ideal))) ⟨m, fun _ => 0, g⟩ (fun r => ∀ c : Dev nD,
    r.2.mem ((c.tc : Thread nD τ).loc main_v4)
        = scaledSum (m ((c.tc : Thread nD τ).loc main_arg0)) (m ((c.tc : Thread nD τ).loc main_arg1))
            (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from run_main m g
  · exact kernel_result m c
  · exact W_main_arg0 m (dats m) c
  · exact W_main_arg2 m (dats m) c
  · exact W_main_arg3 m (dats m) c

end Cert.Linear
-- ==== Proof.ReferenceValue.lean ====
/- The reference's result as a function of its arguments: the region casts the weight, the host does the rest. -/
module

public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.Linear

open Idealize.ShloMosaic Idealize.ShloMosaic.TcCoe Idealize.SL.Sem
open Cert.ReferenceIdeal Cert.ReferenceIdeal.Gen

/-- The linear layer with the scale applied to the weight first: at batch `j 0`, position `j 1`, output column `j 2`,
    the inner product of the input row with the scaled row `j 2` of the weight, plus the bias. -/
def scaledWeight (x : FVec Ideal S4x8192x2048 .bf16) (w : FVec Ideal S2048x2048 .fp8e4m3) (s : FVec Ideal S_ .f32)
    (b : FVec Ideal S2048 .bf16) : FVec Ideal S4x8192x2048 .bf16 := fun j =>
  (∑ k : Fin 2048, x (ix3 (j 0) (j 1) k) * (w (ix2 (j 2) k) * s ix0)) + b (ix1 (j 2))

/-- The host operations over the cast weight — scale it, contract it with the input, add the bias along the last axis —
    are `scaledWeight`. -/
theorem host_part (x : FVec Ideal S4x8192x2048 .bf16) (w : FVec Ideal S2048x2048 .fp8e4m3) (s : FVec Ideal S_ .f32)
    (b : FVec Ideal S2048 .bf16) :
    addf (truncf .bf16 (Host.dotGeneral (F := Ideal) (φ₁ := .bf16) (φ₂ := .bf16) dot_S4x8192x2048_S2048x2048_S4x8192x2048_2_1_01_0_n_n none x
        (mulf (extf .bf16 w bitsLt_fp8e4m3_bf16)
          (broadcastInDim S2048x2048 ![] bcast_S_S2048x2048 (truncf .bf16 s bitsLt_bf16_f32)))) bitsLt_bf16_f32)
      (broadcastInDim S4x8192x2048 ![0, 1, 2] bcast_S1x1x2048_S4x8192x2048_0_1_2
        (broadcastInDim S1x1x2048 ![2] bcast_S2048_S1x1x2048_2 b)) = scaledWeight x w s b := by
  funext j
  pointwise [scaledWeight]

variable (m : (ℓ : Loc nD τ sig) → Buf (Elt Ideal) ℓ) (g : Dev nD → PrngReg)

/-- Both windows of the region show their one block, which is the whole array. -/
theorem reference_idx : ∀ t : Fin cfg0.N, win0_0.index t = ![0, 0] ∧ win0_1.index t = ![0, 0] :=
  (by decide +kernel : ∀ t : Fin grid0.N, _)

/-- The region's only point casts the whole weight: exactly, element by element. -/
theorem reference_cast (c : Dev nD) : (dats m 0 c).arrAt 1 (cfgs 0).N
    = extf (F := Ideal) .bf16 (m ((c.tc : Thread nD τ).loc main_arg1)) bitsLt_fp8e4m3_bf16 := by
  refine (dats m 0 c).arrAt_eq_of_covers 1 _ (by decide +kernel) fun t _ y => ?_
  blk_simp
  rw [after0_1]
  frame_out
  pointwise [k0_pay1]
  blk_point [iblk, V, reference_idx t]

/-- After the host operations the result buffer holds `scaledWeight` of the arguments. -/
theorem reference_result (c : Dev nD) : Pipeline.afterTail₀ cfgs (dats m) 0 (V0 m) [hostOps1] c main_v8
    = scaledWeight (m ((c.tc : Thread nD τ).loc main_arg0)) (m ((c.tc : Thread nD τ).loc main_arg1))
        (m ((c.tc : Thread nD τ).loc main_arg2)) (m ((c.tc : Thread nD τ).loc main_arg3)) := by
  have region : Pipeline.withArrays (cfgs 0).spec c (V0 m c) (fun w => (dats m 0 c).arrAt w (cfgs 0).N)
      (Proc.devRef .tc main_v0) = (dats m 0 c).arrAt 1 (cfgs 0).N :=
    Pipeline.withArrays_arr (cfgs 0).spec winFacts0.arr_inj c _ _ 1
  have input : Pipeline.withArrays (cfgs 0).spec c (V0 m c) (fun w => (dats m 0 c).arrAt w (cfgs 0).N)
      (Proc.devRef .tc main_arg0) = m ((c.tc : Thread nD τ).loc main_arg0) :=
    Pipeline.withArrays_of_ne (cfgs 0).spec c (V0 m c) _ main_arg0 (by decide)
  have scale : Pipeline.withArrays (cfgs 0).spec c (V0 m c) (fun w => (dats m 0 c).arrAt w (cfgs 0).N)
      (Proc.devRef .tc main_arg2) = m ((c.tc : Thread nD τ).loc main_arg2) :=
    Pipeline.withArrays_of_ne (cfgs 0).spec c (V0 m c) _ main_arg2 (by decide)
  have bias : Pipeline.withArrays (cfgs 0).spec c (V0 m c) (fun w => (dats m 0 c).arrAt w (cfgs 0).N)
      (Proc.devRef .tc main_arg3) = m ((c.tc : Thread nD τ).loc main_arg3) :=
    Pipeline.withArrays_of_ne (cfgs 0).spec c (V0 m c) _ main_arg3 (by decide)
  unfold Pipeline.afterTail₀
  simp only [hostOps1, List.flatten_cons, List.flatten_nil, List.append_nil, List.cons_append, List.nil_append]
  after_results
  rw [region, input, scale, bias, reference_cast]
  exact host_part _ _ _ _

/-- The reference runs, leaves `scaledWeight` of its arguments in its result buffer, and leaves its arguments alone. -/
theorem reference_run : θ_run defs (onTc (τ := τ) (main (F := Ideal))) ⟨m, fun _ => 0, g⟩ (fun r => ∀ c : Dev nD,
    r.2.mem ((c.tc : Thread nD τ).loc main_v8)
        = scaledWeight (m ((c.tc : Thread nD τ).loc main_arg0)) (m ((c.tc : Thread nD τ).loc main_arg1))
            (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from run_main m g
  · exact reference_result m c
  · exact W_main_arg0 m (dats m) c
  · exact W_main_arg2 m (dats m) c
  · exact W_main_arg3 m (dats m) c

end Cert.Linear
-- ==== Proof.Scale.lean ====
/- The equation: a finite scale that is not negative may multiply the weight or the finished sum. -/
module

public import proofs.«01_k».proof.Proof.KernelValue
public import proofs.«01_k».proof.Proof.ReferenceValue

@[expose] public section

set_option maxRecDepth 16384

noncomputable section

namespace Cert.Linear

open Idealize.ShloMosaic

/-- A factor that is neither negative nor infinite comes out of a finite sum of extended reals. -/
theorem sum_mul_of_finite {ι : Type} (A : Finset ι) (f : ι → EReal) (s : EReal) (h0 : 0 ≤ s) (h1 : s ≠ ⊤) :
    (∑ k ∈ A, f k) * s = ∑ k ∈ A, f k * s := by
  classical
  induction A using Finset.induction_on with
  | empty => simp
  | insert a A ha ih =>
    rw [Finset.sum_insert ha, Finset.sum_insert ha, ← ih]
    exact EReal.right_distrib_of_nonneg_of_ne_top h0 h1 _ _

/-- For such a scale the kernel's result is the reference's. -/
theorem scaledSum_eq (x : FVec Ideal Cert.KernelIdeal.S4x8192x2048 .bf16)
    (w : FVec Ideal Cert.KernelIdeal.S2048x2048 .fp8e4m3) (s : FVec Ideal Cert.KernelIdeal.S_ .f32)
    (b : FVec Ideal Cert.KernelIdeal.S2048 .bf16) (h0 : (0 : EReal) ≤ s ix0) (h1 : (s ix0 : EReal) ≠ ⊤) :
    scaledSum x w s b = scaledWeight x w s b := by
  funext j
  unfold scaledSum scaledWeight
  rw [sum_mul_of_finite _ _ _ h0 h1]
  simp only [mul_assoc]

end Cert.Linear
-- ==== Proof.Precondition.lean ====
/- What the precondition of the value claim says about the scale. -/
module

public import proofs.«01_k».proof.Defs
public import Idealize.ShloMosaic.Lib.Pointwise

@[expose] public section

noncomputable section

namespace Cert.Linear

open Idealize.ShloMosaic

/-- The precondition says just that: the scale is at least zero and below infinity. -/
theorem scale_of_pre [Cert.Pre_scale_nonneg_finite.Facts] (x : FVec Ideal Cert.Pre_scale_nonneg_finite.S4x8192x2048 .bf16)
    (w : FVec Ideal Cert.Pre_scale_nonneg_finite.S2048x2048 .fp8e4m3) (s : FVec Ideal Cert.Pre_scale_nonneg_finite.S_ .f32)
    (b : FVec Ideal Cert.Pre_scale_nonneg_finite.S2048 .bf16)
    (h : Cert.Pre_scale_nonneg_finite.fn (F := Ideal) x w s b = fun _ => 1#1) :
    (0 : EReal) ≤ s ix0 ∧ (s ix0 : EReal) ≠ ⊤ := by
  have h' := congrFun h ix0
  unfold Cert.Pre_scale_nonneg_finite.fn at h'
  pointwise at h'
  have both : ∀ p q : Bool, IntOp.andi (BitVec.ofBool p) (BitVec.ofBool q) = 1#1 → p = true ∧ q = true := by decide
  obtain ⟨h0, h1⟩ := both _ _ h'
  exact ⟨of_decide_eq_true h0, ne_top_of_lt (of_decide_eq_true h1)⟩

end Cert.Linear
-- ==== Proof.lean ====
/- The proof of the claim: the three frames as generated, nothing to show for the idealization, and the equality of
   the two programs' results from their runs and the one equation about the scale. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Scale
public import proofs.«01_k».proof.Proof.Precondition
public import Idealize.ShloMosaic.Adequacy
public import Idealize.ShloMosaic.Init

@[expose] public section

noncomputable section

namespace Cert.Proof

open Idealize.ShloMosaic Idealize.SL.Sem

/-- The precondition's program states no side condition. -/
theorem preFacts : Cert.Pre_scale_nonneg_finite.Facts := {}

/-- On arguments whose scale is finite and not negative both programs end with equal results, and leave their
    arguments alone. -/
theorem equal_results : Cert.algebraic_KernelIdeal_ReferenceIdeal_pre_scale_nonneg_finite
    (hKernelIdeal := Cert.KernelIdeal.Gen.facts) (hReferenceIdeal := Cert.ReferenceIdeal.Gen.facts)
    (hPre_scale_nonneg_finite := preFacts) := by
  haveI := preFacts
  intro m g m' g' hpre hagree
  refine ⟨_, Cert.Linear.kernel_run m g, ?_⟩
  refine (θ_run _ _ _).mono (fun r h c => ?_) (Cert.Linear.reference_run m' g')
  obtain ⟨hx, hw, hs, hb⟩ := hagree c
  obtain ⟨h0, h1⟩ := Cert.Linear.scale_of_pre _ _ _ _ (hpre c)
  obtain ⟨hout, hargs⟩ := h c
  refine ⟨hout.trans ?_, hargs⟩
  rw [hx, hw, hs, hb]
  exact (Cert.Linear.scaledSum_eq _ _ _ _ h0 h1).symm

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, equal_results⟩

end Cert.Proof

end
